-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x32x32x32 : Shape := ⟨5, ![4, 256, 32, 32, 32]⟩
abbrev S50x256 : Shape := ⟨2, ![50, 256]⟩
abbrev S32x256 : Shape := ⟨2, ![32, 256]⟩
abbrev S256x32 : Shape := ⟨2, ![256, 32]⟩
abbrev S16x32 : Shape := ⟨2, ![16, 32]⟩
abbrev S1x16x32x32x32 : Shape := ⟨5, ![1, 16, 32, 32, 32]⟩
abbrev S1x16x32x1x1 : Shape := ⟨5, ![1, 16, 32, 1, 1]⟩
abbrev S1x16x1x32x1 : Shape := ⟨5, ![1, 16, 1, 32, 1]⟩
abbrev S1x16x32x32x1 : Shape := ⟨5, ![1, 16, 32, 32, 1]⟩
abbrev S1x16x1x1x32 : Shape := ⟨5, ![1, 16, 1, 1, 32]⟩

abbrev nBuf : Space → Nat
  | .hbm => 11
  | .vmem => 8
  | .smem => 0
  | _ => 0

abbrev bufTy : (tb : Table) → Fin (tcTables nBuf tb) → BufTy
  | .hbm, ⟨0, _⟩ => ⟨S4x256x32x32x32, .f32⟩
  | .hbm, ⟨1, _⟩ => ⟨S50x256, .f32⟩
  | .hbm, ⟨2, _⟩ => ⟨S50x256, .f32⟩
  | .hbm, ⟨3, _⟩ => ⟨S50x256, .f32⟩
  | .hbm, ⟨4, _⟩ => ⟨S32x256, .f32⟩
  | .hbm, ⟨5, _⟩ => ⟨S256x32, .f32⟩
  | .hbm, ⟨6, _⟩ => ⟨S32x256, .f32⟩
  | .hbm, ⟨7, _⟩ => ⟨S256x32, .f32⟩
  | .hbm, ⟨8, _⟩ => ⟨S32x256, .f32⟩
  | .hbm, ⟨9, _⟩ => ⟨S256x32, .f32⟩
  | .hbm, ⟨10, _⟩ => ⟨S4x256x32x32x32, .f32⟩
  | .local _ .vmem, ⟨0, _⟩ => ⟨S16x32, .f32⟩
  | .local _ .vmem, ⟨1, _⟩ => ⟨S16x32, .f32⟩
  | .local _ .vmem, ⟨2, _⟩ => ⟨S16x32, .f32⟩
  | .local _ .vmem, ⟨3, _⟩ => ⟨S16x32, .f32⟩
  | .local _ .vmem, ⟨4, _⟩ => ⟨S16x32, .f32⟩
  | .local _ .vmem, ⟨5, _⟩ => ⟨S16x32, .f32⟩
  | .local _ .vmem, ⟨6, _⟩ => ⟨S1x16x32x32x32, .f32⟩
  | .local _ .vmem, ⟨7, _⟩ => ⟨S1x16x32x32x32, .f32⟩
  | _, _ => ⟨S4x256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x32x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x256x32x32x32 : Shape := ⟨5, ![4, 256, 32, 32, 32]⟩
abbrev S50x256 : Shape := ⟨2, ![50, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S32x1x1x256 : Shape := ⟨4, ![32, 1, 1, 256]⟩
abbrev S1x32x1x1x1x1x1x256 : Shape := ⟨8, ![1, 32, 1, 1, 1, 1, 1, 256]⟩
abbrev S1x32x32x1x32x1x1x256 : Shape := ⟨8, ![1, 32, 32, 1, 32, 1, 1, 256]⟩
abbrev S32x32x32x256 : Shape := ⟨4, ![32, 32, 32, 256]⟩
abbrev S1x32x1x256 : Shape := ⟨4, ![1, 32, 1, 256]⟩
abbrev S1x1x1x32x1x1x1x256 : Shape := ⟨8, ![1, 1, 1, 32, 1, 1, 1, 256]⟩
abbrev S32x1x1x32x32x1x1x256 : Shape := ⟨8, ![32, 1, 1, 32, 32, 1, 1, 256]⟩
abbrev S1x1x32x256 : Shape := ⟨4, ![1, 1, 32, 256]⟩
abbrev S1x1x1x1x1x32x1x256 : Shape := ⟨8, ![1, 1, 1, 1, 1, 32, 1, 256]⟩
abbrev S32x1x32x1x1x32x1x256 : Shape := ⟨8, ![32, 1, 32, 1, 1, 32, 1, 256]⟩
abbrev S256x32x32x32 : Shape := ⟨4, ![256, 32, 32, 32]⟩
abbrev S1x256x32x32x32 : Shape := ⟨5, ![1, 256, 32, 32, 32]⟩
abbrev S1x1x1x256x1x32x1x32x1x32 : Shape := ⟨10, ![1, 1, 1, 256, 1, 32, 1, 32, 1, 32]⟩
abbrev S4x1x1x256x1x32x1x32x1x32 : Shape := ⟨10, ![4, 1, 1, 256, 1, 32, 1, 32, 1, 32]⟩

abbrev nBuf : Space → Nat
  | .hbm => 95
  | .vmem => 0
  | .smem => 0
  | _ => 0

abbrev bufTy : (tb : Table) → Fin (tcTables nBuf tb) → BufTy
  | .hbm, ⟨0, _⟩ => ⟨S4x256x32x32x32, .f32⟩
  | .hbm, ⟨1, _⟩ => ⟨S50x256, .f32⟩
  | .hbm, ⟨2, _⟩ => ⟨S50x256, .f32⟩
  | .hbm, ⟨3, _⟩ => ⟨S50x256, .f32⟩
  | .hbm, ⟨4, _⟩ => ⟨S32, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S1, .i32⟩
  | .hbm, ⟨16, _⟩ => ⟨S_, .i32⟩
  | .hbm, ⟨17, _⟩ => ⟨S32x1, .i32⟩
  | .hbm, ⟨18, _⟩ => ⟨S32x1, .i1⟩
  | .hbm, ⟨19, _⟩ => ⟨S1x1, .i32⟩
  | .hbm, ⟨20, _⟩ => ⟨S32x1, .i32⟩
  | .hbm, ⟨21, _⟩ => ⟨S32x1, .i1⟩
  | .hbm, ⟨22, _⟩ => ⟨S32x1, .i1⟩
  | .hbm, ⟨23, _⟩ => ⟨S_, .i1⟩
  | .hbm, ⟨24, _⟩ => ⟨S32, .i1⟩
  | .hbm, ⟨25, _⟩ => ⟨S32x256, .f32⟩
  | .hbm, ⟨26, _⟩ => ⟨S32x256, .i1⟩
  | .hbm, ⟨27, _⟩ => ⟨S_, .f32⟩
  | .hbm, ⟨28, _⟩ => ⟨S32x256, .f32⟩
  | .hbm, ⟨29, _⟩ => ⟨S32x256, .f32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S1, .i32⟩
  | .hbm, ⟨39, _⟩ => ⟨S_, .i32⟩
  | .hbm, ⟨40, _⟩ => ⟨S32x1, .i32⟩
  | .hbm, ⟨41, _⟩ => ⟨S32x1, .i1⟩
  | .hbm, ⟨42, _⟩ => ⟨S1x1, .i32⟩
  | .hbm, ⟨43, _⟩ => ⟨S32x1, .i32⟩
  | .hbm, ⟨44, _⟩ => ⟨S32x1, .i1⟩
  | .hbm, ⟨45, _⟩ => ⟨S32x1, .i1⟩
  | .hbm, ⟨46, _⟩ => ⟨S_, .i1⟩
  | .hbm, ⟨47, _⟩ => ⟨S32, .i1⟩
  | .hbm, ⟨48, _⟩ => ⟨S32x256, .f32⟩
  | .hbm, ⟨49, _⟩ => ⟨S32x256, .i1⟩
  | .hbm, ⟨50, _⟩ => ⟨S_, .f32⟩
  | .hbm, ⟨51, _⟩ => ⟨S32x256, .f32⟩
  | .hbm, ⟨52, _⟩ => ⟨S32x256, .f32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S32x1, .i32⟩
  | .hbm, ⟨61, _⟩ => ⟨S1, .i32⟩
  | .hbm, ⟨62, _⟩ => ⟨S_, .i32⟩
  | .hbm, ⟨63, _⟩ => ⟨S32x1, .i32⟩
  | .hbm, ⟨64, _⟩ => ⟨S32x1, .i1⟩
  | .hbm, ⟨65, _⟩ => ⟨S1x1, .i32⟩
  | .hbm, ⟨66, _⟩ => ⟨S32x1, .i32⟩
  | .hbm, ⟨67, _⟩ => ⟨S32x1, .i1⟩
  | .hbm, ⟨68, _⟩ => ⟨S32x1, .i1⟩
  | .hbm, ⟨69, _⟩ => ⟨S_, .i1⟩
  | .hbm, ⟨70, _⟩ => ⟨S32, .i1⟩
  | .hbm, ⟨71, _⟩ => ⟨S32x256, .f32⟩
  | .hbm, ⟨72, _⟩ => ⟨S32x256, .i1⟩
  | .hbm, ⟨73, _⟩ => ⟨S_, .f32⟩
  | .hbm, ⟨74, _⟩ => ⟨S32x256, .f32⟩
  | .hbm, ⟨75, _⟩ => ⟨S32x256, .f32⟩
  | .hbm, ⟨76, _⟩ => ⟨S32x1x1x256, .f32⟩
  | .hbm, ⟨77, _⟩ => ⟨S1x32x1x1x1x1x1x256, .f32⟩
  | .hbm, ⟨78, _⟩ => ⟨S1x32x32x1x32x1x1x256, .f32⟩
  | .hbm, ⟨79, _⟩ => ⟨S32x32x32x256, .f32⟩
  | .hbm, ⟨80, _⟩ => ⟨S1x32x1x256, .f32⟩
  | .hbm, ⟨81, _⟩ => ⟨S1x1x1x32x1x1x1x256, .f32⟩
  | .hbm, ⟨82, _⟩ => ⟨S32x1x1x32x32x1x1x256, .f32⟩
  | .hbm, ⟨83, _⟩ => ⟨S32x32x32x256, .f32⟩
  | .hbm, ⟨84, _⟩ => ⟨S1x1x32x256, .f32⟩
  | .hbm, ⟨85, _⟩ => ⟨S1x1x1x1x1x32x1x256, .f32⟩
  | .hbm, ⟨86, _⟩ => ⟨S32x1x32x1x1x32x1x256, .f32⟩
  | .hbm, ⟨87, _⟩ => ⟨S32x32x32x256, .f32⟩
  | .hbm, ⟨88, _⟩ => ⟨S32x32x32x256, .f32⟩
  | .hbm, ⟨89, _⟩ => ⟨S32x32x32x256, .f32⟩
  | .hbm, ⟨90, _⟩ => ⟨S256x32x32x32, .f32⟩
  | .hbm, ⟨91, _⟩ => ⟨S1x256x32x32x32, .f32⟩
  | .hbm, ⟨92, _⟩ => ⟨S1x1x1x256x1x32x1x32x1x32, .f32⟩
  | .hbm, ⟨93, _⟩ => ⟨S4x1x1x256x1x32x1x32x1x32, .f32⟩
  | .hbm, ⟨94, _⟩ => ⟨S4x256x32x32x32, .f32⟩
  | _, _ => ⟨S4x256x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v4 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩

abbrev nD : Nat := 1
abbrev τ : Topo := Topo.v7x

variable {F : FTy → Type} [FloatOps F]
-- ==== Proof.Embed.lean ====
/-
  What both programs compute, written once as a function of the three embedding tables: entry `(b, d, i, j, k)` of the
  result is `x[i, d] + y[j, d] + z[k, d]`, the sum taken from the left. Only rows 0 to 31 of the 50-row tables are read, and
  the batch coordinate `b` is not read at all.
-/
module

public import Idealize.ShloMosaic.Lib.Pointwise

@[expose] public section

noncomputable section

namespace Cert.Embed

open Idealize.ShloMosaic

variable {F : FTy → Type} [FloatOps F]

/-- A row number below 32 as a row of a 50-row table. -/
abbrev row (i : Fin 32) : Fin 50 := ⟨i.val, Nat.lt_of_lt_of_le i.isLt (by decide)⟩

/-- The position embedding at channel `d` and position `(i, j, k)`. -/
def at4 (x y z : FVec F ⟨2, ![50, 256]⟩ .f32) (d : Fin 256) (i j k : Fin 32) : F .f32 :=
  FloatOps.addf (FloatOps.addf (x (ix2 (row i) d)) (y (ix2 (row j) d))) (z (ix2 (row k) d))

/-- The whole result: the position embedding repeated over the batch. -/
def all (x y z : FVec F ⟨2, ![50, 256]⟩ .f32) : FVec F ⟨5, ![4, 256, 32, 32, 32]⟩ .f32 :=
  fun p => at4 x y z (p 1) (p 2) (p 3) (p 4)

end Cert.Embed

end
-- ==== Proof.KernelValue.lean ====
/-
  The kernel's result. The launch cuts the output into 4 by 16 blocks: block `(i, j)` holds batch entry `i` and channels
  `16 j` to `16 j + 15`. Each block is computed from the same sixteen channels of the three tables, which the host has cut to
  32 rows and transposed. So what the array holds after the launch is one function of the three tables.
-/
module

public import proofs.«01_k».proof.Proof.Embed
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.KValue

open Cert.KernelIdeal Cert.KernelIdeal.Gen Idealize.ShloMosaic Idealize.SL.Sem

variable {F : FTy → Type} [FloatOps F]
variable (m : (ℓ : Loc nD τ sig) → Buf (Elt F) ℓ) (c : Dev nD)

/-- The host's cut of a table: its first 32 rows, transposed. -/
theorem cut_apply (x : FVec F S50x256 .f32) (d : Fin 256) (r : Fin 32) :
    transpose S256x32 [1, 0] (extractStridedSlice S32x256 ![0, 0] x slices_S50x256_S32x256_0_0) transposes_S32x256_S256x32_1_0 (ix2 d r)
      = x (ix2 (Embed.row r) d) := by
  pointwise

/-- What the launch finds in the first window's array, at channel `d` and row `r`. -/
theorem V_first (d : Fin 256) (r : Fin 32) :
    V m c main_v1 (ix2 d r) = m ((c.tc : Thread nD τ).loc main_arg1) (ix2 (Embed.row r) d) := by
  refine Eq.trans ?_ (cut_apply (m ((c.tc : Thread nD τ).loc main_arg1)) d r)
  unfold V
  after_reads_at

/-- What the launch finds in the second window's array, at channel `d` and row `r`. -/
theorem V_second (d : Fin 256) (r : Fin 32) :
    V m c main_v3 (ix2 d r) = m ((c.tc : Thread nD τ).loc main_arg2) (ix2 (Embed.row r) d) := by
  refine Eq.trans ?_ (cut_apply (m ((c.tc : Thread nD τ).loc main_arg2)) d r)
  unfold V
  after_reads_at

/-- What the launch finds in the third window's array, at channel `d` and row `r`. -/
theorem V_third (d : Fin 256) (r : Fin 32) :
    V m c main_v5 (ix2 d r) = m ((c.tc : Thread nD τ).loc main_arg3) (ix2 (Embed.row r) d) := by
  refine Eq.trans ?_ (cut_apply (m ((c.tc : Thread nD τ).loc main_arg3)) d r)
  unfold V
  after_reads_at

/-- Which blocks the windows stage at a grid point: the tables' windows follow the channel block of the output's. -/
theorem idx : ∀ t : Fin cfg0.N, win0_0.index t = ![t.val % 16, 0] ∧ win0_1.index t = ![t.val % 16, 0]
    ∧ win0_2.index t = ![t.val % 16, 0] ∧ win0_3.index t = ![t.val / 16, t.val % 16, 0, 0, 0] :=
  (by decide +kernel : ∀ t : Fin grid0.N, _)

/-- What one grid point leaves in its block, at an index of the block: three table blocks read at the block's channel and
    at one position coordinate each. -/
theorem body_apply (P0 P1 P2 : Vec F S16x32 .f32) (u : Fin 1) (q : Fin 16) (i j k : Fin 32) :
    k0_pay1 P0 P1 P2 (ix5 u q i j k)
      = FloatOps.addf (FloatOps.addf (P0 (ix2 q i)) (P1 (ix2 q j))) (P2 (ix2 q k)) := by
  pointwise [k0_pay1]

/-- The channel that lane `q` of point `t`'s blocks holds. -/
abbrev chan (t : Fin cfg0.N) (q : Fin 16) : Fin 256 := ⟨t.val % 16 * 16 + q.val, by omega⟩

/-- The first window's block at a point, read off the first table. -/
theorem block_first (t : Fin cfg0.N) (q : Fin 16) (r : Fin 32) :
    iblk m c 0 t (ix2 q r) = m ((c.tc : Thread nD τ).loc main_arg1) (ix2 (Embed.row r) (chan t q)) := by
  refine Eq.trans ?_ (V_first m c (chan t q) r)
  blk_ext [iblk, idx t]

/-- The second window's block at a point, read off the second table. -/
theorem block_second (t : Fin cfg0.N) (q : Fin 16) (r : Fin 32) :
    iblk m c 1 t (ix2 q r) = m ((c.tc : Thread nD τ).loc main_arg2) (ix2 (Embed.row r) (chan t q)) := by
  refine Eq.trans ?_ (V_second m c (chan t q) r)
  blk_ext [iblk, idx t]

/-- The third window's block at a point, read off the third table. -/
theorem block_third (t : Fin cfg0.N) (q : Fin 16) (r : Fin 32) :
    iblk m c 2 t (ix2 q r) = m ((c.tc : Thread nD τ).loc main_arg3) (ix2 (Embed.row r) (chan t q)) := by
  refine Eq.trans ?_ (V_third m c (chan t q) r)
  blk_ext [iblk, idx t]

/-- Where the output's block at a point lies in the output array. -/
theorem emb_out (t : Fin cfg0.N) (u : Fin 1) (q : Fin 16) (i j k : Fin 32) (b : Fin 4) (hb : b.val = t.val / 16) :
    ((cfg0.win 3).blk t).view.emb (ix5 u q i j k) = ix5 b (chan t q) i j k := by
  blk_ext [idx t]

/-- The output array after the launch: the position embedding of the three tables, repeated over the batch. -/
theorem array_eq : (dats m 0 c).arrAt 3 cfg0.N
    = Embed.all (m ((c.tc : Thread nD τ).loc main_arg1)) (m ((c.tc : Thread nD τ).loc main_arg2))
        (m ((c.tc : Thread nD τ).loc main_arg3)) := by
  refine (dats m 0 c).arrAt_eq_of_covers 3 _ (by decide +kernel) fun t hf y => ?_
  blk_simp
  rw [after0_3]
  frame_out
  obtain ⟨u, q, i, j, k, rfl⟩ : ∃ (u : Fin 1) (q : Fin 16) (i j k : Fin 32), y = ix5 u q i j k :=
    ⟨y 0, y 1, y 2, y 3, y 4, eq_ix5 y⟩
  have ht : t.val < 64 := t.isLt
  refine Eq.trans ?_ (congrArg _ (emb_out t u q i j k ⟨t.val / 16, by omega⟩ rfl).symm)
  rw [body_apply, block_first, block_second, block_third]
  rfl

end Cert.KernelIdeal.KValue

end
-- ==== Proof.Taken.lean ====
/-
  The reference's table lookup. `jnp.take(table, arange(32), axis=0)` prints as a wrap of negative indices, a gather, and a
  fill of the rows whose index is out of range. Here the indices are 0 to 31 and the table has 50 rows, so nothing wraps,
  nothing is filled, and row `r` of the lookup is row `r` of the table.
-/
module

public import proofs.«01_k».proof.Proof.Embed
public import proofs.«01_k».proof.Proof.Gen.ReferenceIdeal.Run
public import Idealize.ShloMosaic.Lib.Routing.Ops

@[expose] public section

noncomputable section

namespace Cert.ReferenceIdeal.Taken

open Cert.ReferenceIdeal Cert.ReferenceIdeal.Gen Idealize.ShloMosaic

variable {F : FTy → Type} [FloatOps F]

/-- The row indices after the wrap of negative ones, as a column. -/
abbrev rows : IVec S32x1 32 :=
  broadcastInDim S32x1 ![0] bcast_S32_S32x1_0
    (select (cmpi .slt (iotaInDim S32 32 0) (broadcastInDim S32 ![] bcast_S_S32 (constantI S_ 32 0#32)))
      (addi (iotaInDim S32 32 0) (broadcastInDim S32 ![] bcast_S_S32 (constantI S_ 32 50#32))) (iotaInDim S32 32 0))

/-- The bit per row that says that its index is one of the table's rows. -/
abbrev inRange : IVec S32 1 :=
  Host.reduce IntOp.andi
    (andi (cmpi .sge rows (broadcastInDim S32x1 ![] bcast_S_S32x1 (constantI S_ 32 0#32)))
      (cmpi .sle rows (broadcastInDim S32x1 ![0, 1] bcast_S1x1_S32x1_0_1 (broadcastInDim S1x1 ![1] bcast_S1_S1x1_1 (constantI S1 32 49#32)))))
    (constantI S_ 1 1#1) reducesTo_S32x1_S32_d1 h_S_

/-- The lookup as the reference prints it. -/
abbrev taken (x : FVec F S50x256 .f32) : FVec F S32x256 .f32 :=
  select (broadcastInDim S32x256 ![0] bcast_S32_S32x256_0 inRange)
    (Host.gather gather_S50x256_S32x1_S32x256_1_0_n_n_0_1_1256 x rows)
    (broadcastInDim S32x256 ![] bcast_S_S32x256 (constant S_ .f32 0x7FC00000#32))

/-- No index is negative: row `r`'s index is `r`. -/
theorem rows_apply (r : Fin 32) (u : Fin 1) : rows (ix2 r u) = BitVec.ofNat 32 r.val := by
  have h : ∀ r : Fin 32, Scalar.select (IntOp.cmpi .slt (BitVec.ofNat 32 r.val) 0#32)
      (IntOp.addi (BitVec.ofNat 32 r.val) 50#32) (BitVec.ofNat 32 r.val) = BitVec.ofNat 32 r.val := by decide
  refine Eq.trans ?_ (h r)
  pointwise [rows]

/-- Every index is in range. -/
theorem inRange_apply (q : Fin 32) : inRange (ix1 q) = 1#1 := by
  have h : ∀ r : Fin 32, IntOp.andi (IntOp.cmpi .sge (BitVec.ofNat 32 r.val) 0#32)
      (IntOp.cmpi .sle (BitVec.ofNat 32 r.val) 49#32) = 1#1 := by decide
  have e : (andi (cmpi .sge rows (broadcastInDim S32x1 ![] bcast_S_S32x1 (constantI S_ 32 0#32)))
      (cmpi .sle rows (broadcastInDim S32x1 ![0, 1] bcast_S1x1_S32x1_0_1 (broadcastInDim S1x1 ![1] bcast_S1_S1x1_1 (constantI S1 32 49#32)))))
        = fun _ => 1#1 := by
    funext i
    obtain ⟨r, u, rfl⟩ : ∃ (r : Fin 32) (u : Fin 1), i = ix2 r u := ⟨i 0, i 1, eq_ix2 i⟩
    refine Eq.trans ?_ (h r)
    show IntOp.andi (IntOp.cmpi .sge (rows _) _) (IntOp.cmpi .sle (rows _) _) = _
    rw [rows_apply]
    rfl
  unfold inRange
  rw [e, Host.reduce_eq_foldl]
  generalize List.filter _ _ = l
  show l.foldl (fun r _ => IntOp.andi r 1#1) 1#1 = 1#1
  induction l with
  | nil => rfl
  | cons a l ih => exact ih

/-- Row `r` of the lookup is row `r` of the table. -/
theorem taken_apply (x : FVec F S50x256 .f32) (r : Fin 32) (d : Fin 256) :
    taken x (ix2 r d) = x (ix2 (Embed.row r) d) := by
  have hb : broadcastInDim S32x256 ![0] bcast_S32_S32x256_0 inRange (ix2 r d) = 1#1 := by
    refine Eq.trans ?_ (inRange_apply r)
    generalize inRange = v
    pointwise
  have hg : Host.gather gather_S50x256_S32x1_S32x256_1_0_n_n_0_1_1256 x rows (ix2 r d) = x (ix2 (Embed.row r) d) := by
    simp only [ix2_eq_valueIdx]
    exact Routing.gather_row _ rfl rfl rfl rfl rfl x rows r d (Embed.row r)
      (by rw [← ix2_eq_valueIdx]; exact rows_apply r 0) (by decide)
  show Scalar.select (broadcastInDim S32x256 ![0] bcast_S32_S32x256_0 inRange (ix2 r d)) _ _ = _
  rw [hb, hg]
  rfl

end Cert.ReferenceIdeal.Taken

end
-- ==== Proof.Spread.lean ====
/-
  The reference's three `jnp.tile` calls on looked-up rows. Each spreads a 32 by 256 array over a 32 by 32 by 32 grid of
  positions, along a different axis: the first reads its row at the first position coordinate, the second at the second, the
  third at the third. The channel is the last coordinate throughout.
-/
module

public import proofs.«01_k».proof.Proof.Embed
public import proofs.«01_k».proof.Proof.Gen.ReferenceIdeal.Run

@[expose] public section

noncomputable section

namespace Cert.ReferenceIdeal.Spread

open Cert.ReferenceIdeal Cert.ReferenceIdeal.Gen Idealize.ShloMosaic

variable {F : FTy → Type} [FloatOps F]

/-- Rows spread along the first position axis, as printed. -/
abbrev first (u : FVec F S32x256 .f32) : FVec F S32x32x32x256 .f32 :=
  shapeCast _ (broadcastInDim S1x32x32x1x32x1x1x256 ![0, 1, 2, 3, 4, 5, 6, 7]
    bcast_S1x32x1x1x1x1x1x256_S1x32x32x1x32x1x1x256_0_1_2_3_4_5_6_7
    (shapeCast _ (broadcastInDim S32x1x1x256 ![0, 3] bcast_S32x256_S32x1x1x256_0_3 u)
      shapeCasts_S32x1x1x256_S1x32x1x1x1x1x1x256)) shapeCasts_S1x32x32x1x32x1x1x256_S32x32x32x256

/-- Rows spread along the second position axis, as printed. -/
abbrev second (u : FVec F S32x256 .f32) : FVec F S32x32x32x256 .f32 :=
  shapeCast _ (broadcastInDim S32x1x1x32x32x1x1x256 ![0, 1, 2, 3, 4, 5, 6, 7]
    bcast_S1x1x1x32x1x1x1x256_S32x1x1x32x32x1x1x256_0_1_2_3_4_5_6_7
    (shapeCast _ (broadcastInDim S1x32x1x256 ![1, 3] bcast_S32x256_S1x32x1x256_1_3 u)
      shapeCasts_S1x32x1x256_S1x1x1x32x1x1x1x256)) shapeCasts_S32x1x1x32x32x1x1x256_S32x32x32x256

/-- Rows spread along the third position axis, as printed. -/
abbrev third (u : FVec F S32x256 .f32) : FVec F S32x32x32x256 .f32 :=
  shapeCast _ (broadcastInDim S32x1x32x1x1x32x1x256 ![0, 1, 2, 3, 4, 5, 6, 7]
    bcast_S1x1x1x1x1x32x1x256_S32x1x32x1x1x32x1x256_0_1_2_3_4_5_6_7
    (shapeCast _ (broadcastInDim S1x1x32x256 ![2, 3] bcast_S32x256_S1x1x32x256_2_3 u)
      shapeCasts_S1x1x32x256_S1x1x1x1x1x32x1x256)) shapeCasts_S32x1x32x1x1x32x1x256_S32x32x32x256

/-- The first spread reads the row of the first position coordinate. -/
theorem first_apply (u : FVec F S32x256 .f32) (i j k : Fin 32) (d : Fin 256) : first u (ix4 i j k d) = u (ix2 i d) := by
  pointwise [first]

/-- The second spread reads the row of the second position coordinate. -/
theorem second_apply (u : FVec F S32x256 .f32) (i j k : Fin 32) (d : Fin 256) : second u (ix4 i j k d) = u (ix2 j d) := by
  pointwise [second]

/-- The third spread reads the row of the third position coordinate. -/
theorem third_apply (u : FVec F S32x256 .f32) (i j k : Fin 32) (d : Fin 256) : third u (ix4 i j k d) = u (ix2 k d) := by
  pointwise [third]

end Cert.ReferenceIdeal.Spread

end
-- ==== Proof.Tile.lean ====
/-
  The reference's last step. `jnp.tile(p[None], (4, 1, 1, 1, 1))` prints as a rank-10 array in which every axis is preceded
  by an axis for its copies, a broadcast over those, and a reshape back to rank 5. Read at an index, it is the batch-free
  array read at the last four coordinates.
-/
module

public import proofs.«01_k».proof.Proof.Embed
public import proofs.«01_k».proof.Proof.Gen.ReferenceIdeal.Run
public import Idealize.ShloMosaic.Lib.Pipeline.Value

@[expose] public section

noncomputable section

namespace Cert.ReferenceIdeal.Tile

open Cert.ReferenceIdeal Cert.ReferenceIdeal.Gen Idealize.ShloMosaic

/-- The row-major position of a rank-10 index, spelt out. -/
theorem position10 {d : Fin 10 → Nat} (i : (⟨10, d⟩ : Shape).Idx) :
    ((⟨10, d⟩ : Shape).rowMajor i).val
      = (((((((((i 0).val * d 1 + (i 1).val) * d 2 + (i 2).val) * d 3 + (i 3).val) * d 4 + (i 4).val) * d 5 + (i 5).val)
          * d 6 + (i 6).val) * d 7 + (i 7).val) * d 8 + (i 8).val) * d 9 + (i 9).val := by
  show (Shape.rowMajorPi d i).val = _
  iterate 10 rw [Shape.rowMajorPi_succ_val]
  simp [Shape.rowMajorPi_zero, Fin.prod_univ_succ, Nat.add_mul, Nat.mul_assoc, Nat.add_assoc]

/-- The rank-10 index of the tiled array at batch copy `b`, channel `d` and position `(i, j, k)`. -/
abbrev wide (b : Fin 4) (d : Fin 256) (i j k : Fin 32) : S4x1x1x256x1x32x1x32x1x32.Idx :=
  fun a => match a with
    | ⟨0, _⟩ => b | ⟨1, _⟩ => (0 : Fin 1) | ⟨2, _⟩ => (0 : Fin 1) | ⟨3, _⟩ => d | ⟨4, _⟩ => (0 : Fin 1)
    | ⟨5, _⟩ => i | ⟨6, _⟩ => (0 : Fin 1) | ⟨7, _⟩ => j | ⟨8, _⟩ => (0 : Fin 1) | ⟨9, _⟩ => k

/-- The same before the copies: one batch entry. -/
abbrev narrow (d : Fin 256) (i j k : Fin 32) : S1x1x1x256x1x32x1x32x1x32.Idx :=
  fun a => match a with
    | ⟨0, _⟩ => (0 : Fin 1) | ⟨1, _⟩ => (0 : Fin 1) | ⟨2, _⟩ => (0 : Fin 1) | ⟨3, _⟩ => d | ⟨4, _⟩ => (0 : Fin 1)
    | ⟨5, _⟩ => i | ⟨6, _⟩ => (0 : Fin 1) | ⟨7, _⟩ => j | ⟨8, _⟩ => (0 : Fin 1) | ⟨9, _⟩ => k

/-- The reshape of the tiled array to rank 5 reads it at the index with the copy axes filled in. -/
theorem flat_apply {α : Type} (v : S4x1x1x256x1x32x1x32x1x32.Idx → α) (b : Fin 4) (d : Fin 256) (i j k : Fin 32) :
    shapeCast S4x256x32x32x32 v shapeCasts_S4x1x1x256x1x32x1x32x1x32_S4x256x32x32x32 (ix5 b d i j k)
      = v (wide b d i j k) := by
  refine shapeCast_apply _ _ _ _ ?_
  rw [position10, Shape.rowMajor_val_five]
  show (((((((((b.val * 1 + 0) * 1 + 0) * 256 + d.val) * 1 + 0) * 32 + i.val) * 1 + 0) * 32 + j.val) * 1 + 0) * 32 + k.val)
    = (((b.val * 256 + d.val) * 32 + i.val) * 32 + j.val) * 32 + k.val
  omega

/-- The copies all read the one batch entry. -/
theorem copies_apply {α : Type} (v : S1x1x1x256x1x32x1x32x1x32.Idx → α) (b : Fin 4) (d : Fin 256) (i j k : Fin 32) :
    broadcastInDim S4x1x1x256x1x32x1x32x1x32 ![0, 1, 2, 3, 4, 5, 6, 7, 8, 9]
        bcast_S1x1x1x256x1x32x1x32x1x32_S4x1x1x256x1x32x1x32x1x32_0_1_2_3_4_5_6_7_8_9 v (wide b d i j k)
      = v (narrow d i j k) := by
  refine broadcastInDim_apply _ _ _ _ _ fun a => ?_
  fin_cases a <;> rfl

/-- The reshape to rank 10 reads the rank-5 array at the index without the copy axes. -/
theorem split_apply {α : Type} (v : S1x256x32x32x32.Idx → α) (d : Fin 256) (i j k : Fin 32) :
    shapeCast S1x1x1x256x1x32x1x32x1x32 v shapeCasts_S1x256x32x32x32_S1x1x1x256x1x32x1x32x1x32 (narrow d i j k)
      = v (ix5 0 d i j k) := by
  refine shapeCast_apply _ _ _ _ ?_
  rw [position10, Shape.rowMajor_val_five]
  show (((0 * 256 + d.val) * 32 + i.val) * 32 + j.val) * 32 + k.val
    = (((((((((0 * 1 + 0) * 1 + 0) * 256 + d.val) * 1 + 0) * 32 + i.val) * 1 + 0) * 32 + j.val) * 1 + 0) * 32 + k.val)
  omega

end Cert.ReferenceIdeal.Tile

end
-- ==== Proof.RefValue.lean ====
/-
  The reference's result. Reading the printed expression from the outside in: the tile over the batch, the move of the
  channel axis to the front, the two sums, the three spreads, and the three table lookups.
-/
module

public import proofs.«01_k».proof.Proof.Taken
public import proofs.«01_k».proof.Proof.Spread
public import proofs.«01_k».proof.Proof.Tile

@[expose] public section

noncomputable section

namespace Cert.ReferenceIdeal.RefValue

open Cert.ReferenceIdeal Cert.ReferenceIdeal.Gen Idealize.ShloMosaic Idealize.SL.Sem

variable {F : FTy → Type} [FloatOps F]

/-- The reference's position embedding before the tile over the batch, channel last. -/
abbrev grid (x y z : FVec F S50x256 .f32) : FVec F S32x32x32x256 .f32 :=
  addf (addf (Spread.first (Taken.taken x)) (Spread.second (Taken.taken y))) (Spread.third (Taken.taken z))

/-- The embedding at position `(i, j, k)` and channel `d`. -/
theorem grid_apply (x y z : FVec F S50x256 .f32) (i j k : Fin 32) (d : Fin 256) :
    grid x y z (ix4 i j k d) = Embed.at4 x y z d i j k := by
  show FloatOps.addf (FloatOps.addf (Spread.first (Taken.taken x) (ix4 i j k d)) (Spread.second (Taken.taken y) (ix4 i j k d)))
      (Spread.third (Taken.taken z) (ix4 i j k d)) = _
  rw [Spread.first_apply, Spread.second_apply, Spread.third_apply, Taken.taken_apply, Taken.taken_apply, Taken.taken_apply]
  rfl

/-- Moving the channel to the front and adding a leading batch axis of one entry. -/
theorem channelFirst_apply (g : FVec F S32x32x32x256 .f32) (d : Fin 256) (i j k : Fin 32) :
    broadcastInDim S1x256x32x32x32 ![1, 2, 3, 4] bcast_S256x32x32x32_S1x256x32x32x32_1_2_3_4
        (transpose S256x32x32x32 [3, 0, 1, 2] g transposes_S32x32x32x256_S256x32x32x32_3_0_1_2) (ix5 0 d i j k)
      = g (ix4 i j k d) := by
  pointwise

variable (m : (ℓ : Loc nD τ sig) → Buf (Elt F) ℓ) (c : Dev nD)

/-- The reference returns the position embedding of its three tables, repeated over the batch. -/
theorem result_eq : Cert.ReferenceIdeal.Value.res_out0 m c
    = Embed.all (m ((c.tc : Thread nD τ).loc main_arg1)) (m ((c.tc : Thread nD τ).loc main_arg2))
        (m ((c.tc : Thread nD τ).loc main_arg3)) := by
  funext p
  obtain ⟨b, d, i, j, k, rfl⟩ : ∃ (b : Fin 4) (d : Fin 256) (i j k : Fin 32), p = ix5 b d i j k :=
    ⟨p 0, p 1, p 2, p 3, p 4, eq_ix5 p⟩
  refine Eq.trans (Tile.flat_apply _ b d i j k) ?_
  refine Eq.trans (Tile.copies_apply _ b d i j k) ?_
  refine Eq.trans (Tile.split_apply _ d i j k) ?_
  refine Eq.trans (channelFirst_apply _ d i j k) ?_
  exact grid_apply _ _ _ i j k d

end Cert.ReferenceIdeal.RefValue

end
-- ==== Proof.lean ====
/-
  The certificate. The five claims: the kernel, its ideal form and the ideal reference each run to completion leaving their
  arguments unchanged and every semaphore at zero; the ideal form keeps the kernel; and the ideal kernel and the ideal
  reference return the same array, because both are `Cert.Embed.all` of the three tables.
-/
module

public import proofs.«01_k».proof.Proof.KernelValue
public import proofs.«01_k».proof.Proof.RefValue
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs to completion and leaves its arguments unchanged. -/
theorem frame_kernel : Cert.quiescent_Kernel := fun m ρ _ => Cert.Kernel.Gen.frame m ρ

/-- So does the kernel in its ideal form. -/
theorem frame_ideal : Cert.quiescent_KernelIdeal := fun m ρ _ => Cert.KernelIdeal.Gen.frame m ρ

/-- So does the reference in its ideal form; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference return the same array whenever their arguments agree. -/
theorem same_result : Cert.algebraic_KernelIdeal_ReferenceIdeal := by
  intro m ρ m' ρ' _ hagree
  refine ⟨fun c => (Cert.KernelIdeal.Gen.dats m 0 c).arrAt 3 Cert.KernelIdeal.cfg0.N, ?_, ?_⟩
  · exact Cert.KernelIdeal.Value.run_blocks (F := Ideal) m ρ
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq m' c).trans ?_
    refine Eq.trans ?_ (Cert.KernelIdeal.KValue.array_eq m c).symm
    rw [(hagree c).2.1, (hagree c).2.2.1, (hagree c).2.2.2]

/-- Every claim. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
